-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x32x256x256 : Shape := ⟨4, ![3, 32, 256, 256]⟩
abbrev S3x8x256x256 : Shape := ⟨4, ![3, 8, 256, 256]⟩
abbrev S3x1x256x256 : Shape := ⟨4, ![3, 1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S3x32x256x256, .f32⟩
  | .hbm, ⟨1, _⟩ => ⟨S3x8x256x256, .f32⟩
  | .local _ .vmem, ⟨0, _⟩ => ⟨S3x1x256x256, .f32⟩
  | .local _ .vmem, ⟨1, _⟩ => ⟨S3x1x256x256, .f32⟩
  | .local _ .vmem, ⟨2, _⟩ => ⟨S3x1x256x256, .f32⟩
  | .local _ .vmem, ⟨3, _⟩ => ⟨S3x1x256x256, .f32⟩
  | _, _ => ⟨S3x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c31_i32 : BitVec 32 := 31#32
  let v0 : BitVec 32 := Scalar.muli arg0 c31_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S3x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S3x32x256x256 : Shape := ⟨4, ![3, 32, 256, 256]⟩
abbrev S_ : Shape := ⟨0, ![]⟩
abbrev S7 : Shape := ⟨1, ![7]⟩
abbrev S1 : Shape := ⟨1, ![1]⟩
abbrev S8 : Shape := ⟨1, ![8]⟩
abbrev S8x1 : Shape := ⟨2, ![8, 1]⟩
abbrev S1x1 : Shape := ⟨2, ![1, 1]⟩
abbrev S3x8x256x256 : Shape := ⟨4, ![3, 8, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S3x32x256x256, .f32⟩
  | .hbm, ⟨1, _⟩ => ⟨S_, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S7, .f32⟩
  | .hbm, ⟨9, _⟩ => ⟨S_, .f32⟩
  | .hbm, ⟨10, _⟩ => ⟨S7, .f32⟩
  | .hbm, ⟨11, _⟩ => ⟨S7, .f32⟩
  | .hbm, ⟨12, _⟩ => ⟨S1, .f32⟩
  | .hbm, ⟨13, _⟩ => ⟨S_, .f32⟩
  | .hbm, ⟨14, _⟩ => ⟨S7, .f32⟩
  | .hbm, ⟨15, _⟩ => ⟨S7, .f32⟩
  | .hbm, ⟨16, _⟩ => ⟨S7, .f32⟩
  | .hbm, ⟨17, _⟩ => ⟨S7, .f32⟩
  | .hbm, ⟨18, _⟩ => ⟨S1, .f32⟩
  | .hbm, ⟨19, _⟩ => ⟨S7, .f32⟩
  | .hbm, ⟨20, _⟩ => ⟨S7, .f32⟩
  | .hbm, ⟨21, _⟩ => ⟨S7, .f32⟩
  | .hbm, ⟨22, _⟩ => ⟨S1, .f32⟩
  | .hbm, ⟨23, _⟩ => ⟨S8, .f32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S8x1, .i32⟩
  | .hbm, ⟨33, _⟩ => ⟨S1, .i32⟩
  | .hbm, ⟨34, _⟩ => ⟨S_, .i32⟩
  | .hbm, ⟨35, _⟩ => ⟨S8x1, .i32⟩
  | .hbm, ⟨36, _⟩ => ⟨S8x1, .i1⟩
  | .hbm, ⟨37, _⟩ => ⟨S1x1, .i32⟩
  | .hbm, ⟨38, _⟩ => ⟨S8x1, .i32⟩
  | .hbm, ⟨39, _⟩ => ⟨S8x1, .i1⟩
  | .hbm, ⟨40, _⟩ => ⟨S8x1, .i1⟩
  | .hbm, ⟨41, _⟩ => ⟨S_, .i1⟩
  | .hbm, ⟨42, _⟩ => ⟨S8, .i1⟩
  | .hbm, ⟨43, _⟩ => ⟨S3x8x256x256, .f32⟩
  | .hbm, ⟨44, _⟩ => ⟨S3x8x256x256, .i1⟩
  | .hbm, ⟨45, _⟩ => ⟨S_, .f32⟩
  | .hbm, ⟨46, _⟩ => ⟨S3x8x256x256, .f32⟩
  | .hbm, ⟨47, _⟩ => ⟨S3x8x256x256, .f32⟩
  | _, _ => ⟨S3x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v2 : Ref sig .tc := ⟨.hbm, 47, rfl⟩

abbrev nD : Nat := 1
abbrev τ : Topo := Topo.v7x

variable {F : FTy → Type} [FloatOps F]
-- ==== Proof.Spec.lean ====
/-
  What the slow pathway is, as a function on arrays: row `t` of the eight rows is frame `⌊31·t/7⌋` of the thirty-two.
  Both programs are shown to compute this one function.
-/
module

public import Idealize.ShloMosaic.Lib.Pipeline.ValueKit

@[expose] public section

noncomputable section

namespace Cert.Pathway

open Idealize.ShloMosaic

/-- The clip's shape: channels, frames, height, width. -/
abbrev Clip : Shape := ⟨4, ![3, 32, 256, 256]⟩
/-- The slow pathway's shape: channels, kept frames, height, width. -/
abbrev Slow : Shape := ⟨4, ![3, 8, 256, 256]⟩

/-- The frame that kept position `t` shows: `31·t/7` rounded down. -/
def frameOf (t : ℕ) : ℕ := t * 31 / 7

/-- The kept positions' frames are frames of the clip. -/
theorem frameOf_lt {t : ℕ} (h : t < 8) : frameOf t < 32 := by unfold frameOf; omega

/-- Where an element of the slow pathway comes from: same channel, row and column, frame `frameOf` of its position. -/
def source (i : Slow.Idx) : Clip.Idx := fun a => match a with
  | ⟨0, _⟩ => ⟨(i 0).val, (i 0).isLt⟩
  | ⟨1, _⟩ => ⟨frameOf (i 1).val, frameOf_lt (i 1).isLt⟩
  | ⟨2, _⟩ => ⟨(i 2).val, (i 2).isLt⟩
  | ⟨3, _⟩ => ⟨(i 3).val, (i 3).isLt⟩

/-- An index of the clip with the coordinates of `source i` is `source i`. -/
theorem eq_source (i : Slow.Idx) (j : Clip.Idx) (h0 : (j 0).val = (i 0).val) (h1 : (j 1).val = frameOf (i 1).val)
    (h2 : (j 2).val = (i 2).val) (h3 : (j 3).val = (i 3).val) : j = source i := by
  funext a
  refine Fin.ext ?_
  match a with
  | ⟨0, _⟩ => exact h0
  | ⟨1, _⟩ => exact h1
  | ⟨2, _⟩ => exact h2
  | ⟨3, _⟩ => exact h3

end Cert.Pathway

end
-- ==== Proof.KernelIdealValue.lean ====
/-
  What the idealized kernel's result array holds after the run: element `i` is the clip at `Pathway.source i`.
-/
module

public import proofs.«01_k».proof.Proof.Gen.KernelIdeal.Value
public import proofs.«01_k».proof.Proof.Spec

@[expose] public section

set_option maxRecDepth 16384

noncomputable section

namespace Cert.KernelIdeal.Slow

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The slow pathway of device `c`'s clip. -/
def slow (c : Dev nD) : Buf (Elt F) ((c : Thread nD τ).loc main_v0) :=
  fun i => m ((c : Thread nD τ).loc main_arg0) (Pathway.source i)

/-- Point `t` of the grid reads block `⌊31·t/7⌋` of the clip along the frames and writes block `t` of the result. -/
theorem index_at : ∀ t : Fin cfg0.N,
    win0_0.index t = ![0, Pathway.frameOf t.val, 0, 0] ∧ win0_1.index t = ![0, t.val, 0, 0] :=
  (by decide +kernel : ∀ t : Fin grid0.N,
    win0_0.index t = ![0, Pathway.frameOf t.val, 0, 0] ∧ win0_1.index t = ![0, t.val, 0, 0])

/-- After the run the result array is the slow pathway: every block of it was copied from its frame of the clip. -/
theorem final (c : Dev nD) : (dats m 0 c).arrAt 1 cfg0.N = slow m c := by
  refine (dats m 0 c).arrAt_eq_of_covers 1 _ (by decide +kernel) fun t hf y => ?_
  obtain ⟨e0, e1⟩ := index_at t
  have key : ((cfg0.win 0).blk t).view.emb y = Pathway.source (((cfg0.win 1).blk t).view.emb y) := by
    apply Pathway.eq_source <;> blk_simp [e0, e1]
  blk_simp
  rw [after0_1]
  frame_out
  exact congrArg (m ((c : Thread nD τ).loc main_arg0)) key

/-- The run, read: the first result is the slow pathway, and the clip is unchanged. -/
theorem run : θ_run defs (onTc (τ := τ) (main (F := F))) ⟨m, fun _ => 0, ρ⟩ fun r => ∀ c : Dev nD,
      r.2.mem ((c : Thread nD τ).loc main_v0) = slow m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Slow

end
-- ==== Proof.Linspace.lean ====
/-
  The reference's frame indices: `jnp.linspace(0, 31, 8)` truncated to integers, evaluated exactly, is `⌊31·k/7⌋` at
  position `k`. The first seven positions are `0·(1 − k/7) + 31·(k/7)`, the last one is the endpoint 31 itself.
-/
module

public import proofs.«01_k».proof.Proof.Gen.ReferenceIdeal.Read
public import proofs.«01_k».proof.Proof.Spec
public import Idealize.ShloMosaic.PureOps.Ideal
public import Idealize.ShloMosaic.Lib.ValueIdx
public import Idealize.ShloMosaic.Lib.WordCmp

@[expose] public section

noncomputable section

namespace Cert.ReferenceIdeal.Linspace

open Cert.ReferenceIdeal Cert.ReferenceIdeal.Gen Cert.ReferenceIdeal.Read
open Idealize.ShloMosaic Idealize.ShloMosaic.TcCoe Idealize.ShloMosaic.ValueIdx Idealize.ShloMosaic.WordCmp

/-- The literal 0. -/
theorem lit_zero : Ideal.ofBits .f32 0x00000000#32 = ((0 : ℝ) : EReal) := by
  simp [Ideal.ofBits, Ideal.ieee]

/-- The literal 1. -/
theorem lit_one : Ideal.ofBits .f32 0x3F800000#32 = ((1 : ℝ) : EReal) := by
  simp [Ideal.ofBits, Ideal.ieee, -EReal.coe_mul]; norm_num

/-- The literal 7, the number of intervals. -/
theorem lit_seven : Ideal.ofBits .f32 0x40E00000#32 = ((7 : ℝ) : EReal) := by
  simp [Ideal.ofBits, Ideal.ieee, -EReal.coe_mul]; norm_num

/-- A rank-0 value reshaped to one element is that value. -/
theorem reshape_scalar {α : Type} (x : S_.Idx → α) (i : S1.Idx) (j : S_.Idx) : shapeCast S1 x shapeCasts_S_S1 i = x j := by
  unfold shapeCast
  exact congrArg x (Subsingleton.elim _ _)

/-- The end point: 31. -/
theorem stop_eq (i : S_.Idx) : val_main_call0_v1 (F := Ideal) i = ((31 : ℝ) : EReal) := by
  rw [val_main_call0_v1_apply, val_main_c_apply]
  show (((BitVec.ofNat 32 31).toInt : ℝ) : EReal) = _
  rw [toInt_ofNat_of_lt (by decide)]
  norm_num

/-- The starting point: 0. -/
theorem start_eq (i : S_.Idx) : val_main_call0_v0 (F := Ideal) i = ((0 : ℝ) : EReal) := by
  rw [val_main_call0_v0_apply, val_main_cst_apply]; exact lit_zero

/-- A small counter read as a signed word is itself. -/
theorem toInt_small {k : ℕ} (h : k < 7) : (BitVec.ofNat 32 k).toInt = (k : ℤ) := by
  exact toInt_ofNat_of_lt (by omega)

/-- The step at position `k < 7`: `k/7`. -/
theorem step_eq (i : S7.Idx) : val_main_call0_v6 (F := Ideal) i = ((((i 0).val : ℝ) * (1 / 7) : ℝ) : EReal) := by
  rw [val_main_call0_v6_apply, val_main_call0_v5_apply, val_main_call0_cst_0_apply]
  show Ideal.div (((BitVec.ofNat 32 (i 0).val).toInt : ℝ) : EReal) (Ideal.ofBits .f32 0x40E00000#32) = _
  rw [lit_seven, Ideal.div_coe (by norm_num), toInt_small (i 0).isLt, ← EReal.coe_mul]
  norm_num

/-- The first seven points: `31·k/7`. -/
theorem inner_eq (i : S7.Idx) : val_main_call0_v15 (F := Ideal) i = ((((i 0).val * 31 : ℕ) : ℝ) / (7 : ℕ) : ℝ) := by
  rw [val_main_call0_v15_apply, val_main_call0_v11_apply, val_main_call0_v14_apply, val_main_call0_v9_apply,
    val_main_call0_v10_apply, val_main_call0_v13_apply, val_main_call0_v8_apply, val_main_call0_cst_1_apply, step_eq]
  unfold val_main_call0_v7 val_main_call0_v12
  rw [reshape_scalar _ _ (fun a => a.elim0), reshape_scalar _ _ (fun a => a.elim0), start_eq, stop_eq]
  show ((0 : ℝ) : EReal) * (Ideal.ofBits .f32 0x3F800000#32 - _) + ((31 : ℝ) : EReal) * _ = _
  rw [lit_one, ← EReal.coe_sub, ← EReal.coe_mul, ← EReal.coe_mul, ← EReal.coe_add]
  congr 1
  push_cast
  ring

/-- All eight points: `31·k/7`. -/
theorem points_eq (i : S8.Idx) : val_main_v0 (F := Ideal) i = ((((i 0).val * 31 : ℕ) : ℝ) / (7 : ℕ) : ℝ) := by
  unfold val_main_v0
  by_cases h : (i 0).val < 7
  · rw [concatenate_pair_apply_left (t := S8) (s₁ := S7) (s₂ := S1) 0 _ _ _ i rfl (fun a => match a with | ⟨0, _⟩ => ⟨(i 0).val, h⟩ : S7.Idx)
      (fun b => match b with | ⟨0, _⟩ => rfl)]
    exact inner_eq _
  · have h7 : (i 0).val = 7 := by have := (i 0).isLt; simp at this; omega
    rw [concatenate_pair_apply_right (t := S8) (s₁ := S7) (s₂ := S1) 0 _ _ _ i rfl rfl (fun a => match a with | ⟨0, _⟩ => ⟨0, Nat.one_pos⟩ : S1.Idx)
      (fun b hb => match b, hb with | ⟨0, _⟩, hb => absurd rfl hb) (by rw [h7]; rfl), val_main_call0_v16_apply, stop_eq, h7]
    congr 1
    norm_num

/-- Truncation toward zero of a quotient of naturals, in range, is their integer quotient. -/
theorem fptosi_div {n d : ℕ} (h : n / d < 2 ^ 31) : Ideal.fptosi 32 (((n : ℝ) / (d : ℕ) : ℝ) : EReal) = BitVec.ofNat 32 (n / d) := by
  have hf : ⌊(n : ℝ) / (d : ℝ)⌋ = ((n / d : ℕ) : ℤ) := by
    rw [Int.floor_div_natCast, Int.floor_natCast, Int.natCast_ediv]
  rw [Ideal.fptosi, Ideal.toIntClamped_coe, if_pos (by positivity), hf, ← BitVec.ofInt_natCast]
  show BitVec.ofInt 32 (max (-2147483648) (min (2147483648 - 1) ((n / d : ℕ) : ℤ))) = _
  congr 1
  generalize n / d = q at h ⊢
  omega

/-- The frame index at position `k`, as the word the reference computes: `⌊31·k/7⌋`. -/
theorem index_eq (i : S8.Idx) : val_main_v1 (F := Ideal) i = BitVec.ofNat 32 (Pathway.frameOf (i 0).val) := by
  rw [val_main_v1_apply, points_eq]
  exact fptosi_div (by have := (i 0).isLt; simp at this; omega)

end Cert.ReferenceIdeal.Linspace

end
-- ==== Proof.Take.lean ====
/-
  The reference's `jnp.take` along the frame axis. Its indices are frame numbers below 32, so the wrap of negative
  indices changes none of them, the range mask lets every element through, and the gather reads the frame named by the
  index: the reference's result at an index is the clip at `Pathway.source` of that index.
-/
module

public import proofs.«01_k».proof.Proof.Linspace
public import Idealize.ShloMosaic.PureOps.Reduce

@[expose] public section

noncomputable section

namespace Cert.ReferenceIdeal.Take

open Cert.ReferenceIdeal Cert.ReferenceIdeal.Gen Cert.ReferenceIdeal.Read
open Idealize.ShloMosaic Idealize.ShloMosaic.TcCoe Idealize.ShloMosaic.WordCmp

/-- A kept position is one of eight. -/
theorem position_lt (i : S8.Idx) : (i 0).val < 8 := (i 0).isLt

/-- The word of a kept position's frame, as a count: it is far below the sign bit. -/
theorem frame_lt_half (i : S8.Idx) : Pathway.frameOf (i 0).val < 2 ^ (32 - 1) :=
  lt_trans (Pathway.frameOf_lt (position_lt i)) (by decide)

/-- Wrapping negative indices leaves the frame index as it is. -/
theorem wrapped_eq (i : S8.Idx) : val_main_call1_v4 (F := Ideal) i = BitVec.ofNat 32 (Pathway.frameOf (i 0).val) := by
  rw [val_main_call1_v4_apply, val_main_call1_v1_apply, val_main_call1_v0_apply, val_main_call1_c_apply,
    Linspace.index_eq]
  exact select_of_eq_zero ((cmpi_slt_ofNat_eq_zero_iff (frame_lt_half i) (by decide)).mpr (by omega)) _ _

/-- The start index of the gather for kept position `i 0`. -/
theorem start_eq (i : S8x1.Idx) : val_main_call1_v5 (F := Ideal) i = BitVec.ofNat 32 (Pathway.frameOf (i 0).val) := by
  rw [val_main_call1_v5_apply, wrapped_eq]

/-- Every start index is in range. -/
theorem in_range (i : S8x1.Idx) : val_main_call1_v11 (F := Ideal) i = 1#1 := by
  have hk := frame_lt_half (idx_main_call1_v5 i)
  have hf := Pathway.frameOf_lt (position_lt (idx_main_call1_v5 i))
  rw [val_main_call1_v11_apply, val_main_call1_v7_apply, val_main_call1_v10_apply, val_main_call1_v6_apply,
    val_main_call1_c_2_apply, val_main_call1_v9_apply, val_main_call1_v8_apply, val_main_call1_c_1_apply,
    val_main_call1_v5_apply, wrapped_eq, (cmpi_sge_ofNat_eq_one_iff hk (by decide)).mpr (by omega),
    (cmpi_sle_ofNat_eq_one_iff hk (by decide)).mpr (by omega)]
  rfl

/-- The range mask is set at every kept position. -/
theorem mask_eq (i : S8.Idx) : val_main_call1_v12 (F := Ideal) i = 1#1 := by
  unfold val_main_call1_v12
  rw [Host.reduce_eq_fold_single _ _ _ _ (by decide : S8x1.Reduces [1] S8)]
  have hx : val_main_call1_v11 (F := Ideal) = fun _ => 1#1 := funext in_range
  rw [hx]
  show (Finset.univ : Finset (Fin 1)).fold IntOp.andi (1#1) (fun _ => 1#1) = 1#1
  rw [Finset.univ_unique, Finset.fold_singleton]
  rfl

/-- The dimension numbers of the reference's gather: the frame axis is the one indexed, the others are copied. -/
abbrev dims : GatherDims S3x32x256x256 S8x1 S3x8x256x256 :=
  gather_S3x32x256x256_S8x1_S3x8x256x256_023_1_n_n_1_1_31256256

/-- An axis the gather does not index is read at the result's own coordinate on the axis in its place. -/
theorem offset_axis {w : ℕ} (idx : IVec S8x1 w) (i : S3x8x256x256.Idx) (a : Fin 4) (ha : a ∉ dims.startIndexMap) :
    (dims.operandIdx i idx a).val = dims.offCoord i a := by
  show dims.start i idx a + dims.batchCoord i a + dims.offCoord i a = _
  rw [GatherDims.batchCoord_eq_zero _ _ _ List.not_mem_nil, GatherDims.start, dif_neg ha, Nat.zero_add]

/-- The frame axis is read at the start index of the result's position, when that names a frame. -/
theorem frame_axis (idx : IVec S8x1 32) (i : S3x8x256x256.Idx) {n : ℕ} (hn : n < 32)
    (hidx : ∀ j : S8x1.Idx, (j 0).val = (i 1).val → idx j = BitVec.ofNat 32 n) :
    (dims.operandIdx i idx 1).val = n := by
  show dims.start i idx 1 + dims.batchCoord i 1 + dims.offCoord i 1 = _
  have hm : (1 : Fin 4) ∈ dims.startIndexMap := by decide
  rw [GatherDims.batchCoord_eq_zero _ _ _ List.not_mem_nil, GatherDims.offCoord_eq_zero _ _ _ (by decide),
    GatherDims.start, dif_pos hm, hidx _ rfl, toInt_ofNat_of_lt (lt_trans hn (by decide))]
  show min (n : ℤ).toNat 31 + 0 + 0 = n
  omega

/-- The gather reads the frame its start index names, at the result's channel, row and column. -/
theorem gather_eq (x : S3x32x256x256.Idx → Ideal .f32) (i : S3x8x256x256.Idx) :
    val_main_call1_v13 (F := Ideal) x i = x (Pathway.source i) := by
  unfold val_main_call1_v13 Host.gather
  refine congrArg x (Pathway.eq_source i _ ?_ ?_ ?_ ?_)
  · exact (offset_axis _ i 0 (by decide)).trans rfl
  · exact frame_axis _ i (Pathway.frameOf_lt (i 1).isLt) fun j hj => by rw [start_eq, hj]
  · exact (offset_axis _ i 2 (by decide)).trans rfl
  · exact (offset_axis _ i 3 (by decide)).trans rfl

/-- The reference's first result: the clip at `Pathway.source`. -/
theorem result_eq (x : S3x32x256x256.Idx → Ideal .f32) :
    val_main_v2 (F := Ideal) x = fun i => x (Pathway.source i) := by
  funext i
  rw [val_main_v2_apply, val_main_call1_v14_apply, mask_eq, gather_eq]
  exact select_one _ _

end Cert.ReferenceIdeal.Take

end
-- ==== Proof.lean ====
/-
  The proof of `Cert.Claim`: the kernel runs and leaves its clip alone, as printed and at exact arithmetic; the
  reference does too; the two forms of the kernel are one text; and at exact arithmetic the kernel and the reference
  return the same two arrays. The first result is the clip read at `Pathway.source` on both sides
  (`Proof/KernelIdealValue.lean`, `Proof/Take.lean`), the second is the clip itself.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelIdealValue
public import proofs.«01_k».proof.Proof.Take
public import Idealize.ShloMosaic.Lib.Quiescent

@[expose] public section

noncomputable section

namespace Cert.Proof

open Idealize.ShloMosaic Idealize.ShloMosaic.TcCoe Idealize.SL.Sem

/-- The kernel, as printed, runs, leaves its clip unchanged and its semaphores at zero. -/
theorem kernel_frame : Cert.quiescent_Kernel (hKernel := Cert.Kernel.Gen.facts) :=
  fun m ρ _ => Cert.Kernel.Gen.frame m ρ

/-- So does the kernel at exact arithmetic. -/
theorem kernelIdeal_frame : Cert.quiescent_KernelIdeal (hKernelIdeal := Cert.KernelIdeal.Gen.facts) :=
  fun m ρ _ => Cert.KernelIdeal.Gen.frame m ρ

/-- So does the reference at exact arithmetic. -/
theorem referenceIdeal_frame : Cert.quiescent_ReferenceIdeal (hReferenceIdeal := Cert.ReferenceIdeal.Gen.facts) :=
  fun m ρ _ => (θ_run Cert.ReferenceIdeal.defs _ _).mono
    (fun r h => ⟨fun c => (h c).2.1, sem_eq_zero_of_no_sems (by decide) r.2⟩)
    (Cert.ReferenceIdeal.Value.run (F := Ideal) m ρ)

/-- The kernel and the reference return the same slow pathway and the same fast pathway. -/
theorem results_eq : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Slow.slow m c, fun c => m ((c.tc : Thread Cert.KernelIdeal.nD Cert.KernelIdeal.τ).loc Cert.KernelIdeal.main_arg0), ?_, ?_⟩
  · exact (θ_run Cert.KernelIdeal.defs _ _).mono (fun _ h c => ⟨(h c).1, (h c).2, (h c).2⟩)
      (Cert.KernelIdeal.Slow.run (F := Ideal) m ρ)
  · refine (θ_run Cert.ReferenceIdeal.defs _ _).mono (fun _ h c => ⟨?_, (h c).2.1.trans (hagree c), (h c).2.1⟩)
      (Cert.ReferenceIdeal.Value.run (F := Ideal) m' ρ')
    refine (h c).1.trans ((Cert.ReferenceIdeal.Read.val_main_v2_eq m' c).trans ?_)
    rw [hagree c]
    exact Cert.ReferenceIdeal.Take.result_eq _

/-- Every claim of the certificate. -/
theorem claim : Cert.Claim :=
  ⟨Cert.Kernel.Gen.facts, Cert.KernelIdeal.Gen.facts, Cert.ReferenceIdeal.Gen.facts, kernel_frame, kernelIdeal_frame,
    referenceIdeal_frame, trivial, results_eq⟩

end Cert.Proof

end
